-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_nonnegative [hPre_table_nonnegative : Cert.Pre_table_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_table_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_nonnegative [hPre_table_nonnegative : Cert.Pre_table_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_nonnegative [hKernelIdeal : Cert.KernelIdeal.Facts] [hPre_table_nonnegative : Cert.Pre_table_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_nonnegative [hReferenceIdeal : Cert.ReferenceIdeal.Facts] [hPre_table_nonnegative : Cert.Pre_table_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_table_nonnegative [hKernelIdeal : Cert.KernelIdeal.Facts] [hReferenceIdeal : Cert.ReferenceIdeal.Facts] [hPre_table_nonnegative : Cert.Pre_table_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_table_nonnegative : Cert.Pre_table_nonnegative.Facts),
    quiescent_Kernel (hKernel := hKernel)
    ∧ quiescent_KernelIdeal (hKernelIdeal := hKernelIdeal)
    ∧ quiescent_KernelIdeal_pre_table_nonnegative (hKernelIdeal := hKernelIdeal) (hPre_table_nonnegative := hPre_table_nonnegative)
    ∧ quiescent_ReferenceIdeal (hReferenceIdeal := hReferenceIdeal)
    ∧ quiescent_ReferenceIdeal_pre_table_nonnegative (hReferenceIdeal := hReferenceIdeal) (hPre_table_nonnegative := hPre_table_nonnegative)
    ∧ preserves_Kernel_KernelIdeal
    ∧ algebraic_KernelIdeal_ReferenceIdeal_pre_table_nonnegative (hKernelIdeal := hKernelIdeal) (hReferenceIdeal := hReferenceIdeal) (hPre_table_nonnegative := hPre_table_nonnegative)
-- ==== Pre_table_nonnegative.lean ====
abbrev S16384x256 : Shape := ⟨2, ![16384, 256]⟩
abbrev S8x10 : Shape := ⟨2, ![8, 10]⟩
abbrev S_ : Shape := ⟨0, ![]⟩

class Facts : Prop where
  bcast_S_S8x10 : S_.BroadcastsInDim S8x10 (![] : Fin 0 → Fin S8x10.rank)

variable [Facts]

def fn {F : FTy → Type} [FloatOps F] (main_arg0 : FVec F S16384x256 .f32) (main_arg1 : IVec S8x10 32) : IVec S8x10 1 :=
  let main_c : IVec S_ 32 := constantI S_ 32 0#32
  let main_v0 : IVec S8x10 32 := broadcastInDim S8x10 ![] bcast_S_S8x10 main_c
  let main_v1 : IVec S8x10 1 := cmpi .sge main_arg1 main_v0
  main_v1
-- ==== Kernel.lean ====
abbrev S16384x256 : Shape := ⟨2, ![16384, 256]⟩
abbrev S8x10 : Shape := ⟨2, ![8, 10]⟩
abbrev S16384x18 : Shape := ⟨2, ![16384, 18]⟩
abbrev S1x80 : Shape := ⟨2, ![1, 80]⟩
abbrev S16384x1024 : Shape := ⟨2, ![16384, 1024]⟩
abbrev S512x18 : Shape := ⟨2, ![512, 18]⟩
abbrev S512x1024 : Shape := ⟨2, ![512, 1024]⟩
abbrev S512x10 : Shape := ⟨2, ![512, 10]⟩
abbrev S512x8 : Shape := ⟨2, ![512, 8]⟩
abbrev S512 : Shape := ⟨1, ![512]⟩
abbrev S512x1 : Shape := ⟨2, ![512, 1]⟩
abbrev S512x80 : Shape := ⟨2, ![512, 80]⟩
abbrev S_ : Shape := ⟨0, ![]⟩
abbrev S16384x1 : Shape := ⟨2, ![16384, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x256, .f32⟩
  | .hbm, ⟨1, _⟩ => ⟨S8x10, .i32⟩
  | .hbm, ⟨2, _⟩ => ⟨S16384x18, .f32⟩
  | .hbm, ⟨3, _⟩ => ⟨S1x80, .i32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1, .f32⟩
  | .local _ .vmem, ⟨0, _⟩ => ⟨S512x18, .f32⟩
  | .local _ .vmem, ⟨1, _⟩ => ⟨S512x18, .f32⟩
  | .local _ .vmem, ⟨2, _⟩ => ⟨S1x80, .i32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x80 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x256 : Shape := ⟨2, ![16384, 256]⟩
abbrev S8x10 : Shape := ⟨2, ![8, 10]⟩
abbrev S16384x10 : Shape := ⟨2, ![16384, 10]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8x10, .i32⟩
  | .hbm, ⟨2, _⟩ => ⟨S16384x10, .f32⟩
  | .hbm, ⟨3, _⟩ => ⟨S16384x8, .f32⟩
  | .hbm, ⟨4, _⟩ => ⟨S16384x10, .i32⟩
  | .hbm, ⟨5, _⟩ => ⟨S_, .f32⟩
  | .hbm, ⟨6, _⟩ => ⟨S_, .i32⟩
  | .hbm, ⟨7, _⟩ => ⟨S16384, .f32⟩
  | .hbm, ⟨8, _⟩ => ⟨S16384, .i32⟩
  | .hbm, ⟨9, _⟩ => ⟨S16384x8, .i32⟩
  | .hbm, ⟨10, _⟩ => ⟨S_, .f32⟩
  | .hbm, ⟨11, _⟩ => ⟨S_, .i32⟩
  | .hbm, ⟨12, _⟩ => ⟨S16384, .f32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x1, .i32⟩
  | .hbm, ⟨30, _⟩ => ⟨S16384x2, .i32⟩
  | .hbm, ⟨31, _⟩ => ⟨S16384, .i32⟩
  | .hbm, ⟨32, _⟩ => ⟨S_, .f32⟩
  | .hbm, ⟨33, _⟩ => ⟨S16384x1024, .f32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x1, .i32⟩
  | .hbm, ⟨51, _⟩ => ⟨S16384x2, .i32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_c : Ref sig .tc := ⟨.hbm, 11, rfl⟩
abbrev main_call1_v1_0 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.First.lean ====
/-
  The first index at which a finite family of extended reals is largest, and the two searches that end at it: the smallest index
  among those holding the maximum, and a left fold over (value, index) pairs in any order that keeps the greater value and, on equal
  values, the smaller index. Nothing here names a program.
-/
module

public import Idealize.ShloMosaic.PureOps.Ideal
public import Idealize.ShloMosaic.PureOps.Ideal.Laws
public import Idealize.ShloMosaic.PureOps.Reduce
public import Mathlib.Data.BitVec

@[expose] public section

namespace Cert.Proof.First

open Idealize.ShloMosaic

/-- `k` is the first index at which `f` is largest. -/
def IsFirst {n : Nat} (f : Fin n → EReal) (k : Fin n) : Prop := (∀ i, f i ≤ f k) ∧ ∀ i, f i = f k → k ≤ i

/-- A nonempty family has one. -/
theorem exists_first {n : Nat} (hn : 0 < n) (f : Fin n → EReal) : ∃ k, IsFirst f k := by
  haveI : Nonempty (Fin n) := ⟨⟨0, hn⟩⟩
  obtain ⟨m, hm⟩ := Finite.exists_max f
  obtain ⟨k, hk, hmin⟩ := (Finset.univ.filter fun i => f i = f m).exists_min_image id ⟨m, by simp⟩
  have hk' : f k = f m := (Finset.mem_filter.1 hk).2
  exact ⟨k, fun i => hk' ▸ hm i, fun i hi => hmin i (by simp [hi, hk'])⟩

/-- The first index at which a nonempty family is largest. -/
noncomputable def first {n : Nat} (hn : 0 < n) (f : Fin n → EReal) : Fin n := (exists_first hn f).choose

/-- It is what its name says. -/
theorem first_spec {n : Nat} (hn : 0 < n) (f : Fin n → EReal) : IsFirst f (first hn f) := (exists_first hn f).choose_spec

/-! ## The maximum, then the smallest index that holds it -/

/-- The maximum from −∞ is the value there. -/
theorem fold_max {n : Nat} {f : Fin n → EReal} {k : Fin n} (h : IsFirst f k) : (Finset.univ : Finset (Fin n)).fold max ⊥ f = f k :=
  le_antisymm (Finset.fold_max_le _ |>.2 ⟨bot_le, fun i _ => h.1 i⟩) (Finset.le_fold_max _ |>.2 (Or.inr ⟨k, Finset.mem_univ _, le_rfl⟩))

/-- A word is at most the smaller of two exactly when it is at most both, -/
theorem le_minsi (c x y : BitVec 32) : c.toInt ≤ (IntOp.minsi x y).toInt ↔ c.toInt ≤ x.toInt ∧ c.toInt ≤ y.toInt := by
  unfold IntOp.minsi
  by_cases h : x.slt y = true
  · rw [if_pos h]; have := BitVec.slt_iff_toInt_lt.1 h; omega
  · rw [if_neg h]; have := mt BitVec.slt_iff_toInt_lt.2 h; omega

/-- and at least it exactly when it is at least one of them. -/
theorem minsi_le (c x y : BitVec 32) : (IntOp.minsi x y).toInt ≤ c.toInt ↔ x.toInt ≤ c.toInt ∨ y.toInt ≤ c.toInt := by
  unfold IntOp.minsi
  by_cases h : x.slt y = true
  · rw [if_pos h]; have := BitVec.slt_iff_toInt_lt.1 h; omega
  · rw [if_neg h]; have := mt BitVec.slt_iff_toInt_lt.2 h; omega

/-- The signed minimum of a family of words that holds `g k` and nothing below it. -/
theorem fold_minsi {n : Nat} (b : BitVec 32) (g : Fin n → BitVec 32) (k : Fin n) (hb : (g k).toInt ≤ b.toInt)
    (h : ∀ i, (g k).toInt ≤ (g i).toInt) : (Finset.univ : Finset (Fin n)).fold IntOp.minsi b g = g k := by
  have h1 : (g k).toInt ≤ ((Finset.univ : Finset (Fin n)).fold IntOp.minsi b g).toInt :=
    (Finset.fold_op_rel_iff_and (r := fun c x : BitVec 32 => c.toInt ≤ x.toInt) (fun {x y z} => le_minsi x y z)).2 ⟨hb, fun i _ => h i⟩
  have h2 : ((Finset.univ : Finset (Fin n)).fold IntOp.minsi b g).toInt ≤ (g k).toInt :=
    (Finset.fold_op_rel_iff_or (r := fun c x : BitVec 32 => x.toInt ≤ c.toInt) (fun {x y z} => minsi_le x y z)).2
      (Or.inr ⟨k, Finset.mem_univ _, le_rfl⟩)
  exact BitVec.eq_of_toInt_eq (le_antisymm h2 h1)

/-- A small number, read signed, is itself. -/
theorem toInt_small {k : Nat} (hk : k < 2147483648) : (BitVec.ofNat 32 k).toInt = k := by
  rw [BitVec.toInt_eq_toNat_cond, BitVec.toNat_ofNat]
  omega

/-- The smallest index among those whose value is the maximum, every other index replaced by a word `w` past them all. -/
theorem fold_index {n : Nat} {f : Fin n → EReal} {k : Fin n} (h : IsFirst f k) (w : BitVec 32) (hw : (n : Int) ≤ w.toInt)
    (b : BitVec 32) (hb : (n : Int) ≤ b.toInt) :
    (Finset.univ : Finset (Fin n)).fold IntOp.minsi b (fun i => if f i = f k then BitVec.ofNat 32 i.val else w) = BitVec.ofNat 32 k.val := by
  have hn : n < 2147483648 := by have := w.toInt_lt; omega
  have kv : (BitVec.ofNat 32 k.val).toInt = k.val := toInt_small (by have := k.isLt; omega)
  have hk : (if f k = f k then BitVec.ofNat 32 k.val else w) = BitVec.ofNat 32 k.val := if_pos rfl
  have key := fold_minsi b (fun i => if f i = f k then BitVec.ofNat 32 i.val else w) k (by
    show (if f k = f k then BitVec.ofNat 32 k.val else w).toInt ≤ _
    rw [hk, kv]; have := k.isLt; omega) (fun i => by
    show (if f k = f k then BitVec.ofNat 32 k.val else w).toInt ≤ (if f i = f k then BitVec.ofNat 32 i.val else w).toInt
    rw [hk, kv]
    by_cases hi : f i = f k
    · rw [if_pos hi, toInt_small (by have := i.isLt; omega)]
      exact_mod_cast h.2 i hi
    · rw [if_neg hi]
      have := k.isLt; omega)
  exact key.trans hk

/-- A sum of words of which only the one at `k` is kept. -/
theorem fold_pick {n : Nat} (g : Fin n → BitVec 32) (p : Fin n → BitVec 1) (k : Fin n) (hp : ∀ i, p i = 1#1 ↔ i = k) :
    (Finset.univ : Finset (Fin n)).fold IntOp.addi 0#32 (fun i => Scalar.select (p i) (g i) 0#32) = g k := by
  show ∑ i, Scalar.select (p i) (g i) 0#32 = g k
  refine (Finset.sum_eq_single (f := fun i => Scalar.select (p i) (g i) 0#32) k (fun i _ hi => ?_) (fun h => absurd (Finset.mem_univ k) h)).trans ?_
  · exact if_neg fun h => hi ((hp i).1 h)
  · exact if_pos ((hp k).2 rfl)

/-! ## The fold over pairs -/

/-- Pair `p` is at least as good as pair `e`: a greater value, or the same value and an index no greater. -/
def Better (p e : EReal × BitVec 32) : Prop := e.1 < p.1 ∨ e.1 = p.1 ∧ p.2.toInt ≤ e.2.toInt

/-- Every pair is as good as itself, -/
theorem Better.refl (p : EReal × BitVec 32) : Better p p := Or.inr ⟨rfl, le_rfl⟩

/-- and being as good is passed on. -/
theorem Better.trans {p q e : EReal × BitVec 32} (h : Better p q) (h' : Better q e) : Better p e := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

/-- A step that returns one of its two pairs, at least as good as both. -/
def Picks (f : EReal × BitVec 32 → EReal × BitVec 32 → EReal × BitVec 32) : Prop :=
  ∀ a b, (f a b = a ∨ f a b = b) ∧ Better (f a b) a ∧ Better (f a b) b

/-- Folding such a step over a list ends at the start or at an element, at least as good as all of them. -/
theorem foldl_picks {ι : Type} {f : EReal × BitVec 32 → EReal × BitVec 32 → EReal × BitVec 32} (hf : Picks f) (g : ι → EReal × BitVec 32)
    (l : List ι) (a : EReal × BitVec 32) :
    (l.foldl (fun r n => f r (g n)) a = a ∨ ∃ n ∈ l, l.foldl (fun r n => f r (g n)) a = g n)
      ∧ Better (l.foldl (fun r n => f r (g n)) a) a ∧ ∀ n ∈ l, Better (l.foldl (fun r n => f r (g n)) a) (g n) := by
  induction l generalizing a with
  | nil => exact ⟨Or.inl rfl, Better.refl a, fun _ h => nomatch h⟩
  | cons x l ih =>
    obtain ⟨hmem, ha, hl⟩ := ih (f a (g x))
    obtain ⟨hor, h1, h2⟩ := hf a (g x)
    refine ⟨?_, ha.trans h1, fun n hn => ?_⟩
    · rcases hmem with e | ⟨n, hn, e⟩
      · rcases hor with e' | e'
        · exact Or.inl (e.trans e')
        · exact Or.inr ⟨x, List.mem_cons_self, e.trans e'⟩
      · exact Or.inr ⟨n, List.mem_cons_of_mem _ hn, e⟩
    · rcases List.mem_cons.1 hn with rfl | hn
      · exact ha.trans h2
      · exact hl n hn

/-- Folding it from (−∞, 0) over a list of exactly the pairs (value, index) of `f` ends at the first largest value's index. -/
theorem foldl_index {ι : Type} {n : Nat} {f : Fin n → EReal} {k : Fin n} (h : IsFirst f k) (hn : n < 2147483648)
    {step : EReal × BitVec 32 → EReal × BitVec 32 → EReal × BitVec 32} (hs : Picks step) (g : ι → EReal × BitVec 32) (l : List ι)
    (hg : ∀ x ∈ l, ∃ i : Fin n, g x = (f i, BitVec.ofNat 32 i.val)) (hk : ∃ x ∈ l, g x = (f k, BitVec.ofNat 32 k.val)) :
    (l.foldl (fun r x => step r (g x)) (⊥, 0#32)).2 = BitVec.ofNat 32 k.val := by
  obtain ⟨hmem, -, hl⟩ := foldl_picks hs g l (⊥, 0#32)
  obtain ⟨x, hx, ex⟩ := hk
  have hbest := hl x hx
  rw [ex] at hbest
  have kv : (BitVec.ofNat 32 k.val).toInt = k.val := toInt_small (by have := k.isLt; omega)
  rcases hmem with e | ⟨y, hy, e⟩
  · rw [e] at hbest ⊢
    rcases hbest with hb | ⟨hb, -⟩
    · exact absurd hb not_lt_bot
    · have h0 : 0 < n := k.pos
      have hk0 := h.2 ⟨0, h0⟩ (le_antisymm (h.1 _) (by
        have hb' : f k = ⊥ := hb
        rw [hb']; exact bot_le))
      have : k.val = 0 := Nat.le_zero.1 hk0
      rw [this]
  · obtain ⟨i, ei⟩ := hg y hy
    rw [e, ei] at hbest ⊢
    have iv : (BitVec.ofNat 32 i.val).toInt = i.val := toInt_small (by have := i.isLt; omega)
    rcases hbest with hb | ⟨hb, hi⟩
    · exact absurd hb (not_lt.2 (h.1 i))
    · have hb' : f k = f i := hb
      have hki : k ≤ i := h.2 i hb'.symm
      have hik : (BitVec.ofNat 32 i.val).toInt ≤ (BitVec.ofNat 32 k.val).toInt := hi
      rw [iv, kv] at hik
      have : i.val = k.val := le_antisymm (by exact_mod_cast hik) hki
      show BitVec.ofNat 32 i.val = _
      rw [this]

end Cert.Proof.First
-- ==== Proof.Block.lean ====
/-
  One block of the kernel, read at an index. A row of the block names two winners, the first largest of its ten metric entries and
  the first largest of its eight task entries; their table entry is the row's word. The block's mask says which columns equal it, and
  the two stores are 1 / 0 and 0 / −1000000 under that mask.
-/
module

public import proofs.«01_k».proof.Proof.Gen.KernelIdeal.Skeleton
public import proofs.«01_k».proof.Proof.First
public import Idealize.ShloMosaic.Lib.Pointwise
public import Idealize.ShloMosaic.Lib.WordCmp

@[expose] public section

set_option maxRecDepth 16384

noncomputable section

namespace Cert.Proof.Block

open Cert.KernelIdeal Cert.KernelIdeal.Gen
open Idealize.ShloMosaic Idealize.ShloMosaic.WordCmp Cert.Proof.First

/-- The metric entries of row `r` of a block: its first ten columns. -/
def metrics (x : FVec Ideal S512x18 .f32) (r : Fin 512) : Fin 10 → EReal := fun k => x (ix2 r ⟨k.val, by omega⟩)

/-- The task entries of row `r` of a block: its last eight columns. -/
def tasks (x : FVec Ideal S512x18 .f32) (r : Fin 512) : Fin 8 → EReal := fun k => x (ix2 r ⟨10 + k.val, by omega⟩)

/-- Row `i`, column `j` of the table laid out flat. -/
def flat (i : Fin 8) (j : Fin 10) : Fin 80 := ⟨i.val * 10 + j.val, by omega⟩

/-- The mask at row `r`, column `c`: whether `c` is the table entry at the row's two winners. -/
theorem hit_apply (x : FVec Ideal S512x18 .f32) (t : IVec S1x80 32) (r : Fin 512) (c : Fin 1024) {kM : Fin 10} {kT : Fin 8}
    (hM : IsFirst (metrics x r) kM) (hT : IsFirst (tasks x r) kT) :
    k0_pay2 (F := Ideal) x t (ix2 r c) = BitVec.ofBool (decide (BitVec.ofNat 32 c.val = t (ix2 0 (flat kT kM)))) := by
  unfold k0_pay2
  pointwise
  have bot : Ideal.ofBits .f32 4286578688#32 = ⊥ := by decide
  rw [bot]
  show IntOp.cmpi .eq (BitVec.ofNat 32 c.val) (Finset.univ.fold IntOp.addi 0#32 fun i : Fin 80 =>
      Scalar.select (IntOp.cmpi .eq (BitVec.ofNat 32 i.val) (IntOp.addi
        (IntOp.muli (Finset.univ.fold IntOp.minsi 2147483647#32 fun k : Fin 8 =>
          if tasks x r k = Finset.univ.fold max ⊥ (tasks x r) then BitVec.ofNat 32 k.val else 8#32) 10#32)
        (Finset.univ.fold IntOp.minsi 2147483647#32 fun k : Fin 10 =>
          if metrics x r k = Finset.univ.fold max ⊥ (metrics x r) then BitVec.ofNat 32 k.val else 10#32)))
        (t (ix2 0 i)) 0#32) = _
  rw [fold_max hM, fold_max hT, fold_index hM 10#32 (by decide) 2147483647#32 (by decide),
    fold_index hT 8#32 (by decide) 2147483647#32 (by decide), show (10#32 : BitVec 32) = BitVec.ofNat 32 10 from rfl,
    muli_ofNat, addi_ofNat]
  rw [fold_pick (fun i : Fin 80 => t (ix2 0 i)) _ (flat kT kM) fun i => ?_, cmpi_eq_eq]
  rw [cmpi_eq_ofNat_eq_one_iff (by have := i.isLt; omega) (by omega)]
  exact ⟨fun h => Fin.ext h, fun h => congrArg Fin.val h⟩

/-- The first store at row `r`, column `c`: 1 where the mask is set, else 0. -/
theorem probs_apply (x : FVec Ideal S512x18 .f32) (t : IVec S1x80 32) (r : Fin 512) (c : Fin 1024) {kM : Fin 10} {kT : Fin 8}
    (hM : IsFirst (metrics x r) kM) (hT : IsFirst (tasks x r) kT) :
    k0_pay3 (F := Ideal) x t (ix2 r c) = if BitVec.ofNat 32 c.val = t (ix2 0 (flat kT kM)) then 1 else 0 := by
  have h := hit_apply x t r c hM hT
  show Scalar.select (k0_pay2 (F := Ideal) x t (ix2 r c)) (Ideal.ofBits .f32 0x3F800000#32) (Ideal.ofBits .f32 0x00000000#32) = _
  rw [h, select_decide, Ideal.ofBits_one_f32, Ideal.ofBits_zero_f32]

/-- The second store at row `r`, column `c`: 0 where the mask is set, else the floor of the logarithm. -/
theorem logits_apply (x : FVec Ideal S512x18 .f32) (t : IVec S1x80 32) (r : Fin 512) (c : Fin 1024) {kM : Fin 10} {kT : Fin 8}
    (hM : IsFirst (metrics x r) kM) (hT : IsFirst (tasks x r) kT) :
    k0_pay1 (F := Ideal) (k0_pay2 (F := Ideal) x t) (ix2 r c)
      = if BitVec.ofNat 32 c.val = t (ix2 0 (flat kT kM)) then 0 else Ideal.ofBits .f32 0xC9742400#32 := by
  have h := hit_apply x t r c hM hT
  show Scalar.select (k0_pay2 (F := Ideal) x t (ix2 r c)) (Ideal.ofBits .f32 0x00000000#32) (Ideal.ofBits .f32 0xC9742400#32) = _
  rw [h, select_decide, Ideal.ofBits_zero_f32]

end Cert.Proof.Block
-- ==== Proof.Row.lean ====
/-
  What both programs compute, row by row, on an array `s` of states and a table `t`. A row's metric is the first largest of its
  columns 1 … 10, its task the first largest of its columns 11 … 18; the table's entry at the two is the row's word. The first result
  is the one-hot row of that word over 1024 columns (all zeros when the word is no column), the second its logarithm held at −10⁶.
-/
module

public import proofs.«01_k».proof.Proof.First
public import Idealize.ShloMosaic.Lib.Pointwise

@[expose] public section

noncomputable section

namespace Cert.Proof.Row

open Idealize.ShloMosaic Cert.Proof.First

/-- The metric entries of row `r`: columns 1 … 10. -/
def metrics (s : (⟨2, ![16384, 256]⟩ : Shape).Idx → EReal) (r : Fin 16384) : Fin 10 → EReal := fun k => s (ix2 r ⟨1 + k.val, by omega⟩)

/-- The task entries of row `r`: columns 11 … 18. -/
def tasks (s : (⟨2, ![16384, 256]⟩ : Shape).Idx → EReal) (r : Fin 16384) : Fin 8 → EReal := fun k => s (ix2 r ⟨11 + k.val, by omega⟩)

/-- The row's metric. -/
def metric (s : (⟨2, ![16384, 256]⟩ : Shape).Idx → EReal) (r : Fin 16384) : Fin 10 := first (by decide) (metrics s r)

/-- The row's task. -/
def task (s : (⟨2, ![16384, 256]⟩ : Shape).Idx → EReal) (r : Fin 16384) : Fin 8 := first (by decide) (tasks s r)

/-- It is the first largest metric entry, -/
theorem metric_spec (s : (⟨2, ![16384, 256]⟩ : Shape).Idx → EReal) (r : Fin 16384) : IsFirst (metrics s r) (metric s r) := first_spec _ _

/-- as the task is the first largest task entry. -/
theorem task_spec (s : (⟨2, ![16384, 256]⟩ : Shape).Idx → EReal) (r : Fin 16384) : IsFirst (tasks s r) (task s r) := first_spec _ _

/-- The table's entry at the row's task and metric. -/
def word (s : (⟨2, ![16384, 256]⟩ : Shape).Idx → EReal) (t : (⟨2, ![8, 10]⟩ : Shape).Idx → BitVec 32) (r : Fin 16384) : BitVec 32 :=
  t (ix2 (task s r) (metric s r))

/-- The first result: 1 in the row's column that its word names, 0 elsewhere. -/
def oneHot (s : (⟨2, ![16384, 256]⟩ : Shape).Idx → EReal) (t : (⟨2, ![8, 10]⟩ : Shape).Idx → BitVec 32) :
    (⟨2, ![16384, 1024]⟩ : Shape).Idx → EReal := fun j => if BitVec.ofNat 32 (j 1).val = word s t (j 0) then 1 else 0

/-- The second result: 0 in that column, −10⁶ elsewhere. -/
def logOneHot (s : (⟨2, ![16384, 256]⟩ : Shape).Idx → EReal) (t : (⟨2, ![8, 10]⟩ : Shape).Idx → BitVec 32) :
    (⟨2, ![16384, 1024]⟩ : Shape).Idx → EReal := fun j => if BitVec.ofNat 32 (j 1).val = word s t (j 0) then 0 else Ideal.ofBits .f32 0xC9742400#32

end Cert.Proof.Row
-- ==== Proof.KernelRun.lean ====
/-
  The run of the kernel's program. The lines before the region slice columns 1 … 18 off the states and lay the table out flat; block
  `t` of the region is rows 512·t … 512·t + 511 and writes the same rows of both results; the line after it fills one column with
  zeros. So the three result arrays end holding the one-hot rows, their held logarithm and zeros.
-/
module

public import proofs.«01_k».proof.Proof.Gen.KernelIdeal.Frame
public import proofs.«01_k».proof.Proof.Block
public import proofs.«01_k».proof.Proof.Row
public import Idealize.ShloMosaic.Lib.Pipeline.Value
public import Idealize.ShloMosaic.Lib.Pipeline.ValueKit

@[expose] public section

set_option maxRecDepth 16384

noncomputable section

namespace Cert.Proof.KernelRun

open Cert.KernelIdeal Cert.KernelIdeal.Gen
open Idealize.ShloMosaic Idealize.ShloMosaic.TcCoe Idealize.SL.Sem Cert.Proof

variable (m : (ℓ : Loc nD τ sig) → Buf (Elt Ideal) ℓ) (ρ : Dev nD → PrngReg)

/-- Which block of its array each window is on at a point: the states' and the results' at the point's own row of blocks, the table's whole. -/
theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0] := by decide +kernel

/-- The region finds columns 1 … 18 of the states, -/
theorem V_states (c : Dev nD) : V m c main_v0
    = extractStridedSlice S16384x18 ![0, 1] (m (c.tc.loc main_arg0)) slices_S16384x256_S16384x18_0_1 := by
  show StableHlo.after hostOps0 (fun b => m (c, b)) (Proc.devRef .tc main_v0) = _
  after_results

/-- and the table laid out flat. -/
theorem V_table (c : Dev nD) : V m c main_v1 = shapeCast S1x80 (m (c.tc.loc main_arg1)) shapeCasts_S8x10_S1x80 := by
  show StableHlo.after hostOps0 (fun b => m (c, b)) (Proc.devRef .tc main_v1) = _
  after_results
  rfl

/-- There are 32 points. -/
theorem coord_lt (t : Fin cfg0.N) : (grid0.coords t 0).val < 32 := (grid0.coords t 0).isLt

/-- The array row that row `r` of block `t` is. -/
def row (t : Fin cfg0.N) (r : Fin 512) : Fin 16384 := ⟨(grid0.coords t 0).val * 512 + r.val, by have := coord_lt t; omega⟩

/-- Block `t` of the states, at row `r` and column `k`, is the state of row `row t r` at column 1 + k. -/
theorem states_block (c : Dev nD) (t : Fin cfg0.N) (r : Fin 512) (k : Fin 18) :
    (iblk m c 0 t : FVec Ideal S512x18 .f32) (ix2 r k) = m (c.tc.loc main_arg0) (ix2 (row t r) ⟨1 + k.val, by omega⟩) := by
  have e : (iblk m c 0 t : FVec Ideal S512x18 .f32) (ix2 r k) = (V m c main_v0 : S16384x18.Idx → EReal) (ix2 (row t r) k) := by
    blk_ext [iblk, row, (idx t).1]
  rw [e, V_states]
  pointwise

/-- The flat table at `flat i j` is the table at `(i, j)`. -/
theorem table_block (c : Dev nD) (t : Fin cfg0.N) (i : Fin 8) (j : Fin 10) :
    (iblk m c 1 t : IVec S1x80 32) (ix2 0 (Block.flat i j)) = m (c.tc.loc main_arg1) (ix2 i j) := by
  have e : (iblk m c 1 t : IVec S1x80 32) (ix2 0 (Block.flat i j)) = (V m c main_v1 : S1x80.Idx → BitVec 32) (ix2 0 (Block.flat i j)) := by
    blk_ext [iblk, (idx t).2.1]
  rw [e, V_table]
  refine shapeCast_apply _ _ _ _ ((Shape.rowMajor_val_two (ix2 i j)).trans (Eq.trans ?_ (Shape.rowMajor_val_two (ix2 0 (Block.flat i j))).symm))
  show i.val * 10 + j.val = 0 * 80 + (i.val * 10 + j.val)
  omega

/-- Row `r` of block `t` of the first result is its row `row t r`; -/
theorem emb2 (t : Fin cfg0.N) (r : Fin 512) (k : Fin 1024) :
    (((View.whole main_v2_0).slice (win0_2.rect t)).emb (ix2 r k : S512x1024.Idx) : S16384x1024.Idx) = ix2 (row t r) k := by
  blk_ext [row, (idx t).2.2.1]

/-- and of the second. -/
theorem emb3 (t : Fin cfg0.N) (r : Fin 512) (k : Fin 1024) :
    (((View.whole main_v2_1).slice (win0_3.rect t)).emb (ix2 r k : S512x1024.Idx) : S16384x1024.Idx) = ix2 (row t r) k := by
  blk_ext [row, (idx t).2.2.2]

/-- A block row's metric entries are the array row's, -/
theorem metrics_block (c : Dev nD) (t : Fin cfg0.N) (r : Fin 512) :
    Block.metrics (iblk m c 0 t) r = Row.metrics (m (c.tc.loc main_arg0)) (row t r) := funext fun k => states_block m c t r _

/-- and its task entries. -/
theorem tasks_block (c : Dev nD) (t : Fin cfg0.N) (r : Fin 512) :
    Block.tasks (iblk m c 0 t) r = Row.tasks (m (c.tc.loc main_arg0)) (row t r) := funext fun k => by
  refine (states_block m c t r ⟨10 + k.val, by omega⟩).trans ?_
  exact congrArg (fun i => m (c.tc.loc main_arg0) (ix2 (row t r) i)) (Fin.ext (by show 1 + (10 + k.val) = 11 + k.val; omega))

/-- The first array the region writes ends at the one-hot rows. -/
theorem final_probs (c : Dev nD) : (dats m 0 c).arrAt 2 cfg0.N = Row.oneHot (m (c.tc.loc main_arg0)) (m (c.tc.loc main_arg1)) := by
  refine (dats m 0 c).arrAt_eq_of_covers 2 _ (by decide +kernel) fun t hf y => ?_
  blk_simp
  rw [after0_2]
  frame_out
  obtain ⟨r, k, rfl⟩ : ∃ (r : Fin 512) (k : Fin 1024), y = (ix2 r k : S512x1024.Idx) := ⟨y 0, y 1, ValueIdx.eq_ix2 y⟩
  refine Eq.trans ?_ (congrArg (Row.oneHot (m (c.tc.loc main_arg0)) (m (c.tc.loc main_arg1))) (emb2 t r k)).symm
  refine (Block.probs_apply (iblk m c 0 t) (iblk m c 1 t) r k (metrics_block m c t r ▸ Row.metric_spec _ _)
    (tasks_block m c t r ▸ Row.task_spec _ _)).trans ?_
  rw [table_block]
  rfl

/-- The second ends at their held logarithm. -/
theorem final_logits (c : Dev nD) : (dats m 0 c).arrAt 3 cfg0.N = Row.logOneHot (m (c.tc.loc main_arg0)) (m (c.tc.loc main_arg1)) := by
  refine (dats m 0 c).arrAt_eq_of_covers 3 _ (by decide +kernel) fun t hf y => ?_
  blk_simp
  rw [after0_3]
  frame_out
  obtain ⟨r, k, rfl⟩ : ∃ (r : Fin 512) (k : Fin 1024), y = (ix2 r k : S512x1024.Idx) := ⟨y 0, y 1, ValueIdx.eq_ix2 y⟩
  refine Eq.trans ?_ (congrArg (Row.logOneHot (m (c.tc.loc main_arg0)) (m (c.tc.loc main_arg1))) (emb3 t r k)).symm
  refine (Block.logits_apply (iblk m c 0 t) (iblk m c 1 t) r k (metrics_block m c t r ▸ Row.metric_spec _ _)
    (tasks_block m c t r ▸ Row.task_spec _ _)).trans ?_
  rw [table_block]
  rfl

/-- The column of zeros that the line after the region writes. -/
theorem final_feats (c : Dev nD) : Pipeline.afterTail₀ cfgs (dats m) 0 (V0 m) [hostOps1] c main_v3
    = broadcastInDim S16384x1 ![] bcast_S_S16384x1 (constant (F := Ideal) S_ .f32 0x00000000#32) := by
  unfold Pipeline.afterTail₀
  show StableHlo.after hostOps1 _ (Proc.devRef .tc main_v3) = _
  after_results

/-- From any memory the kernel's program ends with its three result arrays at the one-hot rows, their held logarithm and the zero
    column, and its two arguments as they were. -/
theorem run : θ_run defs (onTc (τ := τ) (main (F := Ideal))) ⟨m, fun _ => 0, ρ⟩ fun r => ∀ c : Dev nD,
      r.2.mem (c.tc.loc main_v2_0) = Row.oneHot (m (c.tc.loc main_arg0)) (m (c.tc.loc main_arg1))
      ∧ r.2.mem (c.tc.loc main_v2_1) = Row.logOneHot (m (c.tc.loc main_arg0)) (m (c.tc.loc main_arg1))
      ∧ r.2.mem (c.tc.loc main_v3) = broadcastInDim S16384x1 ![] bcast_S_S16384x1 (constant (F := Ideal) S_ .f32 0x00000000#32)
      ∧ r.2.mem (c.tc.loc main_arg0) = m (c.tc.loc main_arg0)
      ∧ r.2.mem (c.tc.loc main_arg1) = m (c.tc.loc main_arg1) :=
  (θ_run defs _ _).mono (fun _ h c => ⟨((h c).1 2).trans (final_probs m c), ((h c).1 3).trans (final_logits m c),
      ((h c).2 main_v3 (Pipeline.mem_restRefs_of main_v3 (by decide) (by decide))).trans (final_feats m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelRun
-- ==== Proof.RefRun.lean ====
/-
  The run of the reference program (../ReferenceIdeal.lean: host operations only): from any memory with zero counters every
  weakly fair execution terminates, leaves the two arguments as they were and every counter at zero, and its three result
  buffers hold `probs`, `logits` and `feats` of the launch contents of the arguments — the printed operations composed, named
  stage by stage.
-/
module

public import proofs.«01_k».proof.Proof.Gen.ReferenceIdeal
public import Idealize.ShloMosaic.Lib.StableHlo.Run
public import Idealize.ShloMosaic.Lib.Quiescent

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What the operations compute, stage by stage -/

/-- Each row's first largest metric logit (columns 1 … 10 of the state): its index. -/
def metricIdx (s : FVec F S16384x256 .f32) : IVec S16384 32 := fun j =>
  (Host.argReduce reducer_argmax_f32_i32 (extractStridedSlice S16384x10 ![0, 1] s slices_S16384x256_S16384x10_0_1)
    (iotaInDim S16384x10 32 1) (constant S_ .f32 0xFF800000#32) (constantI S_ 32 0#32) reducesTo_S16384x10_S16384_d1 h_S_ j).2

/-- Each row's first largest task logit (columns 11 … 18 of the state): its index. -/
def taskIdx (s : FVec F S16384x256 .f32) : IVec S16384 32 := fun j =>
  (Host.argReduce reducer_argmax_f32_i32 (extractStridedSlice S16384x8 ![0, 11] s slices_S16384x256_S16384x8_0_11)
    (iotaInDim S16384x8 32 1) (constant S_ .f32 0xFF800000#32) (constantI S_ 32 0#32) reducesTo_S16384x8_S16384_d1 h_S_ j).2

/-- One word at every row. -/
def splat (n : BitVec 32) : IVec S16384 32 := broadcastInDim S16384 ![] bcast_S_S16384 (constantI S_ 32 n)

/-- A vector of indices into an axis of extent `n`, a negative one counted from the end. -/
def wrap (n : BitVec 32) (x : IVec S16384 32) : IVec S16384 32 := select (cmpi .slt x (splat 0#32)) (addi x (splat n)) x

/-- Two index vectors as the two columns of one array of index pairs. -/
def pair (a b : IVec S16384 32) : IVec S16384x2 32 :=
  concatenate S16384x2 1 [⟨S16384x1, broadcastInDim S16384x1 ![0] bcast_S16384_S16384x1_0 a⟩,
    ⟨S16384x1, broadcastInDim S16384x1 ![0] bcast_S16384_S16384x1_0 b⟩] concatenates_S16384x1_S16384x1_S16384x2_d1

/-- The table's entry at each row's task and metric. -/
def action (s : FVec F S16384x256 .f32) (t : IVec S8x10 32) : IVec S16384 32 :=
  Host.gather gather_S8x10_S16384x2_S16384_n_01_n_n_01_1_11 t (pair (wrap 8#32 (taskIdx s)) (wrap 10#32 (metricIdx s)))

/-- The first and the third result: zeros, with a one written in each row at its action. -/
def probs (s : FVec F S16384x256 .f32) (t : IVec S8x10 32) : FVec F S16384x1024 .f32 :=
  Host.scatter scatter_S16384x1024_S16384x2_S16384_n_01_01_1 (fun _ b => b)
    (broadcastInDim S16384x1024 ![] bcast_S_S16384x1024 (constant S_ .f32 0x00000000#32))
    (pair (wrap 16384#32 (iotaInDim S16384 32 0)) (wrap 1024#32 (action s t)))
    (broadcastInDim S16384 ![] bcast_S_S16384 (constant S_ .f32 0x3F800000#32))

/-- The second result: the logarithm of the first, held at −10⁶ from below. -/
def logits (s : FVec F S16384x256 .f32) (t : IVec S8x10 32) : FVec F S16384x1024 .f32 :=
  maximumf (Host.log (probs s t)) (broadcastInDim S16384x1024 ![] bcast_S_S16384x1024 (constant S_ .f32 0xC9742400#32))

/-- The fourth result: one column of zeros. -/
def feats : FVec F S16384x1 .f32 := broadcastInDim S16384x1 ![] bcast_S_S16384x1 (constant S_ .f32 0x00000000#32)

/-! ## The program as a list of operations, in four stretches -/

/-- The index searches: the two slices, then each row's first largest metric and task logit. -/
abbrev opsA : List (HloOp τ sig (Elt F)) :=
  [ unary main_arg0 main_v0 (extractStridedSlice S16384x10 ![0, 1] · slices_S16384x256_S16384x10_0_1),
    unary main_arg0 main_v1 (extractStridedSlice S16384x8 ![0, 11] · slices_S16384x256_S16384x8_0_11),
    nullary main_call0_v0 (iotaInDim S16384x10 32 1),
    nullary main_call0_cst (constant S_ .f32 0xFF800000#32),
    nullary main_call0_c (constantI S_ 32 0#32),
    quaternary main_v0 main_call0_v0 main_call0_cst main_call0_c main_call0_v1_0
      (fun x y u v j => (Host.argReduce reducer_argmax_f32_i32 x y u v reducesTo_S16384x10_S16384_d1 h_S_ j).1),
    quaternary main_v0 main_call0_v0 main_call0_cst main_call0_c main_v2
      (fun x y u v j => (Host.argReduce reducer_argmax_f32_i32 x y u v reducesTo_S16384x10_S16384_d1 h_S_ j).2),
    nullary main_call1_v0 (iotaInDim S16384x8 32 1),
    nullary main_call1_cst (constant S_ .f32 0xFF800000#32),
    nullary main_call1_c (constantI S_ 32 0#32),
    quaternary main_v1 main_call1_v0 main_call1_cst main_call1_c main_call1_v1_0
      (fun x y u v j => (Host.argReduce reducer_argmax_f32_i32 x y u v reducesTo_S16384x8_S16384_d1 h_S_ j).1),
    quaternary main_v1 main_call1_v0 main_call1_cst main_call1_c main_v3
      (fun x y u v j => (Host.argReduce reducer_argmax_f32_i32 x y u v reducesTo_S16384x8_S16384_d1 h_S_ j).2) ]

/-- The table look-up: the indices wrapped and paired, then the gather. -/
abbrev opsB : List (HloOp τ sig (Elt F)) :=
  [ nullary main_c (constantI S_ 32 0#32),
    unary main_c main_v4 (broadcastInDim S16384 ![] bcast_S_S16384),
    binary main_v3 main_v4 main_v5 (cmpi .slt),
    nullary main_c_0 (constantI S_ 32 8#32),
    unary main_c_0 main_v6 (broadcastInDim S16384 ![] bcast_S_S16384),
    binary main_v3 main_v6 main_v7 addi,
    ternary main_v5 main_v7 main_v3 main_v8 select,
    nullary main_c_1 (constantI S_ 32 0#32),
    unary main_c_1 main_v9 (broadcastInDim S16384 ![] bcast_S_S16384),
    binary main_v2 main_v9 main_v10 (cmpi .slt),
    nullary main_c_2 (constantI S_ 32 10#32),
    unary main_c_2 main_v11 (broadcastInDim S16384 ![] bcast_S_S16384),
    binary main_v2 main_v11 main_v12 addi,
    ternary main_v10 main_v12 main_v2 main_v13 select,
    unary main_v8 main_v14 (broadcastInDim S16384x1 ![0] bcast_S16384_S16384x1_0),
    unary main_v13 main_v15 (broadcastInDim S16384x1 ![0] bcast_S16384_S16384x1_0),
    binary main_v14 main_v15 main_v16 (fun a b => concatenate S16384x2 1 [⟨S16384x1, a⟩, ⟨S16384x1, b⟩] concatenates_S16384x1_S16384x1_S16384x2_d1),
    binary main_arg1 main_v16 main_v17 (fun x i => Host.gather gather_S8x10_S16384x2_S16384_n_01_n_n_01_1_11 x i) ]

/-- The write: the row numbers and the actions wrapped and paired, then the scatter of ones into zeros. -/
abbrev opsC : List (HloOp τ sig (Elt F)) :=
  [ nullary main_cst (constant S_ .f32 0x00000000#32),
    unary main_cst main_v18 (broadcastInDim S16384x1024 ![] bcast_S_S16384x1024),
    nullary main_v19 (iotaInDim S16384 32 0),
    nullary main_c_3 (constantI S_ 32 0#32),
    unary main_c_3 main_v20 (broadcastInDim S16384 ![] bcast_S_S16384),
    binary main_v19 main_v20 main_v21 (cmpi .slt),
    nullary main_c_4 (constantI S_ 32 16384#32),
    unary main_c_4 main_v22 (broadcastInDim S16384 ![] bcast_S_S16384),
    binary main_v19 main_v22 main_v23 addi,
    ternary main_v21 main_v23 main_v19 main_v24 select,
    nullary main_c_5 (constantI S_ 32 0#32),
    unary main_c_5 main_v25 (broadcastInDim S16384 ![] bcast_S_S16384),
    binary main_v17 main_v25 main_v26 (cmpi .slt),
    nullary main_c_6 (constantI S_ 32 1024#32),
    unary main_c_6 main_v27 (broadcastInDim S16384 ![] bcast_S_S16384),
    binary main_v17 main_v27 main_v28 addi,
    ternary main_v26 main_v28 main_v17 main_v29 select,
    unary main_v24 main_v30 (broadcastInDim S16384x1 ![0] bcast_S16384_S16384x1_0),
    unary main_v29 main_v31 (broadcastInDim S16384x1 ![0] bcast_S16384_S16384x1_0),
    binary main_v30 main_v31 main_v32 (fun a b => concatenate S16384x2 1 [⟨S16384x1, a⟩, ⟨S16384x1, b⟩] concatenates_S16384x1_S16384x1_S16384x2_d1),
    nullary main_cst_7 (constant S_ .f32 0x3F800000#32),
    unary main_cst_7 main_v33 (broadcastInDim S16384 ![] bcast_S_S16384),
    ternary main_v18 main_v32 main_v33 main_v34 (fun x i u => Host.scatter scatter_S16384x1024_S16384x2_S16384_n_01_01_1 (fun _ b => b) x i u) ]

/-- The logarithm held from below, and the column of zeros. -/
abbrev opsD : List (HloOp τ sig (Elt F)) :=
  [ unary main_v34 main_v35 Host.log,
    nullary main_cst_8 (constant S_ .f32 0xC9742400#32),
    unary main_cst_8 main_v36 (broadcastInDim S16384x1024 ![] bcast_S_S16384x1024),
    binary main_v35 main_v36 main_v37 maximumf,
    nullary main_cst_9 (constant S_ .f32 0x00000000#32),
    unary main_cst_9 main_v38 (broadcastInDim S16384x1 ![] bcast_S_S16384x1) ]

/-- All of them in order, the two index searches in place of their calls. -/
abbrev ops : List (HloOp τ sig (Elt F)) :=
  [ unary main_arg0 main_v0 (extractStridedSlice S16384x10 ![0, 1] · slices_S16384x256_S16384x10_0_1),
    unary main_arg0 main_v1 (extractStridedSlice S16384x8 ![0, 11] · slices_S16384x256_S16384x8_0_11),
    nullary main_call0_v0 (iotaInDim S16384x10 32 1),
    nullary main_call0_cst (constant S_ .f32 0xFF800000#32),
    nullary main_call0_c (constantI S_ 32 0#32),
    quaternary main_v0 main_call0_v0 main_call0_cst main_call0_c main_call0_v1_0
      (fun x y u v j => (Host.argReduce reducer_argmax_f32_i32 x y u v reducesTo_S16384x10_S16384_d1 h_S_ j).1),
    quaternary main_v0 main_call0_v0 main_call0_cst main_call0_c main_v2
      (fun x y u v j => (Host.argReduce reducer_argmax_f32_i32 x y u v reducesTo_S16384x10_S16384_d1 h_S_ j).2),
    nullary main_call1_v0 (iotaInDim S16384x8 32 1),
    nullary main_call1_cst (constant S_ .f32 0xFF800000#32),
    nullary main_call1_c (constantI S_ 32 0#32),
    quaternary main_v1 main_call1_v0 main_call1_cst main_call1_c main_call1_v1_0
      (fun x y u v j => (Host.argReduce reducer_argmax_f32_i32 x y u v reducesTo_S16384x8_S16384_d1 h_S_ j).1),
    quaternary main_v1 main_call1_v0 main_call1_cst main_call1_c main_v3
      (fun x y u v j => (Host.argReduce reducer_argmax_f32_i32 x y u v reducesTo_S16384x8_S16384_d1 h_S_ j).2),
    nullary main_c (constantI S_ 32 0#32),
    unary main_c main_v4 (broadcastInDim S16384 ![] bcast_S_S16384),
    binary main_v3 main_v4 main_v5 (cmpi .slt),
    nullary main_c_0 (constantI S_ 32 8#32),
    unary main_c_0 main_v6 (broadcastInDim S16384 ![] bcast_S_S16384),
    binary main_v3 main_v6 main_v7 addi,
    ternary main_v5 main_v7 main_v3 main_v8 select,
    nullary main_c_1 (constantI S_ 32 0#32),
    unary main_c_1 main_v9 (broadcastInDim S16384 ![] bcast_S_S16384),
    binary main_v2 main_v9 main_v10 (cmpi .slt),
    nullary main_c_2 (constantI S_ 32 10#32),
    unary main_c_2 main_v11 (broadcastInDim S16384 ![] bcast_S_S16384),
    binary main_v2 main_v11 main_v12 addi,
    ternary main_v10 main_v12 main_v2 main_v13 select,
    unary main_v8 main_v14 (broadcastInDim S16384x1 ![0] bcast_S16384_S16384x1_0),
    unary main_v13 main_v15 (broadcastInDim S16384x1 ![0] bcast_S16384_S16384x1_0),
    binary main_v14 main_v15 main_v16 (fun a b => concatenate S16384x2 1 [⟨S16384x1, a⟩, ⟨S16384x1, b⟩] concatenates_S16384x1_S16384x1_S16384x2_d1),
    binary main_arg1 main_v16 main_v17 (fun x i => Host.gather gather_S8x10_S16384x2_S16384_n_01_n_n_01_1_11 x i),
    nullary main_cst (constant S_ .f32 0x00000000#32),
    unary main_cst main_v18 (broadcastInDim S16384x1024 ![] bcast_S_S16384x1024),
    nullary main_v19 (iotaInDim S16384 32 0),
    nullary main_c_3 (constantI S_ 32 0#32),
    unary main_c_3 main_v20 (broadcastInDim S16384 ![] bcast_S_S16384),
    binary main_v19 main_v20 main_v21 (cmpi .slt),
    nullary main_c_4 (constantI S_ 32 16384#32),
    unary main_c_4 main_v22 (broadcastInDim S16384 ![] bcast_S_S16384),
    binary main_v19 main_v22 main_v23 addi,
    ternary main_v21 main_v23 main_v19 main_v24 select,
    nullary main_c_5 (constantI S_ 32 0#32),
    unary main_c_5 main_v25 (broadcastInDim S16384 ![] bcast_S_S16384),
    binary main_v17 main_v25 main_v26 (cmpi .slt),
    nullary main_c_6 (constantI S_ 32 1024#32),
    unary main_c_6 main_v27 (broadcastInDim S16384 ![] bcast_S_S16384),
    binary main_v17 main_v27 main_v28 addi,
    ternary main_v26 main_v28 main_v17 main_v29 select,
    unary main_v24 main_v30 (broadcastInDim S16384x1 ![0] bcast_S16384_S16384x1_0),
    unary main_v29 main_v31 (broadcastInDim S16384x1 ![0] bcast_S16384_S16384x1_0),
    binary main_v30 main_v31 main_v32 (fun a b => concatenate S16384x2 1 [⟨S16384x1, a⟩, ⟨S16384x1, b⟩] concatenates_S16384x1_S16384x1_S16384x2_d1),
    nullary main_cst_7 (constant S_ .f32 0x3F800000#32),
    unary main_cst_7 main_v33 (broadcastInDim S16384 ![] bcast_S_S16384),
    ternary main_v18 main_v32 main_v33 main_v34 (fun x i u => Host.scatter scatter_S16384x1024_S16384x2_S16384_n_01_01_1 (fun _ b => b) x i u),
    unary main_v34 main_v35 Host.log,
    nullary main_cst_8 (constant S_ .f32 0xC9742400#32),
    unary main_cst_8 main_v36 (broadcastInDim S16384x1024 ![] bcast_S_S16384x1024),
    binary main_v35 main_v36 main_v37 maximumf,
    nullary main_cst_9 (constant S_ .f32 0x00000000#32),
    unary main_cst_9 main_v38 (broadcastInDim S16384x1 ![] bcast_S_S16384x1) ]

/-- The program's operations are the four stretches one after another. -/
theorem ops_eq : (ops : List (HloOp τ sig (Elt F))) = opsA ++ (opsB ++ (opsC ++ opsD)) := rfl

set_option maxRecDepth 8192 in
/-- The printed program is that straight line. -/
theorem main_eq (c : Dev nD) : main (F := F) c = seq ops := rfl

/-! ## What the buffers hold at the end -/

/-- Two stretches in a row: the second from what the first leaves. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

section Stretches
variable (V : Valuation τ sig (Elt F))

/-- The first stretch leaves each row's metric index, -/
theorem A_v2 : after opsA V (main_v2 : DevRef τ sig) = metricIdx (V (main_arg0 : DevRef τ sig)) := by
  after_results
  rfl
/-- each row's task index, -/
theorem A_v3 : after opsA V (main_v3 : DevRef τ sig) = taskIdx (V (main_arg0 : DevRef τ sig)) := by
  after_results
  rfl
/-- and the table as it was. -/
theorem A_arg1 : after opsA V (main_arg1 : DevRef τ sig) = V (main_arg1 : DevRef τ sig) := by after_results

/-- The second stretch leaves the table's entry at each row's pair of indices. -/
theorem B_v17 : after opsB V (main_v17 : DevRef τ sig)
    = Host.gather gather_S8x10_S16384x2_S16384_n_01_n_n_01_1_11 (V (main_arg1 : DevRef τ sig))
        (pair (wrap 8#32 (V (main_v3 : DevRef τ sig))) (wrap 10#32 (V (main_v2 : DevRef τ sig)))) := by
  after_results
  rfl

/-- The third stretch leaves the zeros with a one scattered at each row's action. -/
theorem C_v34 : after opsC V (main_v34 : DevRef τ sig)
    = Host.scatter scatter_S16384x1024_S16384x2_S16384_n_01_01_1 (fun _ b => b)
        (broadcastInDim S16384x1024 ![] bcast_S_S16384x1024 (constant S_ .f32 0x00000000#32))
        (pair (wrap 16384#32 (iotaInDim S16384 32 0)) (wrap 1024#32 (V (main_v17 : DevRef τ sig))))
        (broadcastInDim S16384 ![] bcast_S_S16384 (constant S_ .f32 0x3F800000#32)) := by
  after_results
  rfl

/-- The fourth stretch leaves the scattered array as it was, -/
theorem D_v34 : after opsD V (main_v34 : DevRef τ sig) = V (main_v34 : DevRef τ sig) := by after_results
/-- its logarithm held at the floor, -/
theorem D_v37 : after opsD V (main_v37 : DevRef τ sig)
    = maximumf (Host.log (V (main_v34 : DevRef τ sig))) (broadcastInDim S16384x1024 ![] bcast_S_S16384x1024 (constant S_ .f32 0xC9742400#32)) := by
  after_results
/-- and the column of zeros. -/
theorem D_v38 : after opsD V (main_v38 : DevRef τ sig) = feats := by
  after_results
  rfl

/-- The first result's buffer, -/
theorem probs_eq : after ops V (main_v34 : DevRef τ sig) = probs (V (main_arg0 : DevRef τ sig)) (V (main_arg1 : DevRef τ sig)) := by
  rw [ops_eq, after_two, after_two, after_two, D_v34, C_v34, B_v17, A_v2, A_v3, A_arg1]
  rfl

/-- the second's, -/
theorem logits_eq : after ops V (main_v37 : DevRef τ sig) = logits (V (main_arg0 : DevRef τ sig)) (V (main_arg1 : DevRef τ sig)) := by
  rw [ops_eq, after_two, after_two, after_two, D_v37, C_v34, B_v17, A_v2, A_v3, A_arg1]
  rfl

/-- the fourth's, -/
theorem feats_eq : after ops V (main_v38 : DevRef τ sig) = feats := by
  rw [ops_eq, after_two, after_two, after_two, D_v38]

/-- and the metrics', which no operation writes. -/
theorem arg0_eq : after ops V (main_arg0 : DevRef τ sig) = V (main_arg0 : DevRef τ sig) := by after_results_simp
/-- The table's buffer holds what it held. -/
theorem arg1_eq : after ops V (main_arg1 : DevRef τ sig) = V (main_arg1 : DevRef τ sig) := by after_results_simp

end Stretches

/-! ## The run -/

/-- The program scopes no buffer. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

set_option maxRecDepth 65536 in
set_option maxHeartbeats 1000000 in
/-- Every operation touches the core's own buffers only. -/
theorem ops_sub : (ops : List (HloOp τ sig (Elt F))).Forall fun op => op.bufs ⊆ tcRefs τ sig :=
  ⟨unary_bufs_sub .., unary_bufs_sub .., nullary_bufs_sub .., nullary_bufs_sub .., nullary_bufs_sub ..,
    quaternary_bufs_sub .., quaternary_bufs_sub .., nullary_bufs_sub .., nullary_bufs_sub .., nullary_bufs_sub ..,
    quaternary_bufs_sub .., quaternary_bufs_sub .., nullary_bufs_sub .., unary_bufs_sub .., binary_bufs_sub ..,
    nullary_bufs_sub .., unary_bufs_sub .., binary_bufs_sub .., ternary_bufs_sub .., nullary_bufs_sub ..,
    unary_bufs_sub .., binary_bufs_sub .., nullary_bufs_sub .., unary_bufs_sub .., binary_bufs_sub ..,
    ternary_bufs_sub .., unary_bufs_sub .., unary_bufs_sub .., binary_bufs_sub .., binary_bufs_sub ..,
    nullary_bufs_sub .., unary_bufs_sub .., nullary_bufs_sub .., nullary_bufs_sub .., unary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub ..,
    binary_bufs_sub .., ternary_bufs_sub .., unary_bufs_sub .., unary_bufs_sub .., binary_bufs_sub ..,
    nullary_bufs_sub .., unary_bufs_sub .., ternary_bufs_sub .., unary_bufs_sub .., nullary_bufs_sub ..,
    unary_bufs_sub .., binary_bufs_sub .., nullary_bufs_sub .., unary_bufs_sub ..⟩

set_option maxRecDepth 65536 in
set_option maxHeartbeats 1000000 in
/-- The reference runs to its three distinct results, its arguments unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v34) = probs (m ((c.tc : Thread nD τ).loc main_arg0)) (m ((c.tc : Thread nD τ).loc main_arg1))
        ∧ r.2.mem ((c.tc : Thread nD τ).loc main_v37) = logits (m ((c.tc : Thread nD τ).loc main_arg0)) (m ((c.tc : Thread nD τ).loc main_arg1))
        ∧ r.2.mem ((c.tc : Thread nD τ).loc main_v38) = feats
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v34).trans (probs_eq _), (h c main_v37).trans (logits_eq _),
      (h c main_v38).trans (feats_eq _), (h c main_arg0).trans (arg0_eq _), (h c main_arg1).trans (arg1_eq _)⟩)
    (run_seq scopedRefs_eq scopedSems_eq defs main (fun _ => ops) main_eq (fun _ => ops_sub) m ρ)

end Cert.Proof.RefRun

end
-- ==== Proof.RefValue.lean ====
/-
  The reference's composed operations, read at an index. Each row's search ends at its first largest entry, so its action is the
  table's entry there (the row's word). The scatter writes row `r`'s one at column `word` and drops it when the word is no column, and
  the logarithm of 0 is −∞, which the floor lifts to −10⁶. The table's words are asked not to be negative: the reference counts a
  negative action from the end of the row.
-/
module

public import proofs.«01_k».proof.Proof.RefRun
public import proofs.«01_k».proof.Proof.Row
public import Idealize.ShloMosaic.PureOps.Ideal.Laws
public import Idealize.ShloMosaic.Lib.Pointwise
public import Idealize.ShloMosaic.Lib.WordCmp
public import Idealize.ShloMosaic.Lib.Routing.OpsSet

@[expose] public section

set_option maxRecDepth 16384

noncomputable section

namespace Cert.Proof.RefValue

open Cert.ReferenceIdeal Cert.ReferenceIdeal.Gen
open Idealize.ShloMosaic Idealize.ShloMosaic.WordCmp Cert.Proof.First

/-! ## The search -/

/-- The reducer keeps the greater value and, on equal values, the smaller index. -/
theorem picks : Picks (reducer_argmax_f32_i32 (F := Ideal)) := by
  rintro ⟨a, i⟩ ⟨b, j⟩
  have e : reducer_argmax_f32_i32 (F := Ideal) (a, i) (b, j)
      = if b < a then (a, i) else if a = b ∧ i.toInt < j.toInt then (a, i) else (b, j) := by
    show (Scalar.select (IntOp.ori (Ideal.cmp .ogt a b) (Ideal.cmp .une a a)) a b,
      Scalar.select (IntOp.ori (IntOp.ori (Ideal.cmp .ogt a b) (Ideal.cmp .une a a)) (IntOp.andi (Ideal.cmp .oeq a b) (IntOp.cmpi .slt i j))) i j) = _
    rw [cmpi_slt_eq]
    unfold Ideal.cmp
    dsimp only
    by_cases h1 : b < a
    · simp [h1, Scalar.select, IntOp.ori, IntOp.andi, (by decide : ∀ w : BitVec 1, 1#1 ||| w = 1#1)]
    · by_cases h2 : a = b
      · subst h2
        by_cases h3 : i.toInt < j.toInt <;> simp [h3, Scalar.select, IntOp.ori, IntOp.andi]
      · simp [h1, h2, Scalar.select, IntOp.ori, IntOp.andi]
  rw [e]
  unfold Better
  by_cases h1 : b < a
  · rw [if_pos h1]
    exact ⟨Or.inl rfl, Or.inr ⟨rfl, le_rfl⟩, Or.inl h1⟩
  · rw [if_neg h1]
    by_cases h2 : a = b ∧ i.toInt < j.toInt
    · rw [if_pos h2]
      exact ⟨Or.inl rfl, Or.inr ⟨rfl, le_rfl⟩, Or.inr ⟨h2.1.symm, h2.2.le⟩⟩
    · rw [if_neg h2]
      refine ⟨Or.inr rfl, ?_, Or.inr ⟨rfl, le_rfl⟩⟩
      rcases lt_or_eq_of_le (not_lt.1 h1) with h | h
      · exact Or.inl h
      · exact Or.inr ⟨h, not_lt.1 fun h' => h2 ⟨h, h'⟩⟩

/-- The row search over `n` columns ends at the first largest one. -/
theorem search_apply {n : Nat} (hn : n < 2147483648) (x : FVec Ideal ⟨2, ![16384, n]⟩ .f32)
    (h : (⟨2, ![16384, n]⟩ : Shape).ReducesTo [1] S16384) (hu : 0 < S_.numel) (r : Fin 16384) {k : Fin n}
    (hk : IsFirst (fun i => x (ix2 r i)) k) :
    (Host.argReduce reducer_argmax_f32_i32 x (iotaInDim ⟨2, ![16384, n]⟩ 32 1) (constant S_ .f32 0xFF800000#32) (constantI S_ 32 0#32) h hu (ix1 r)).2
      = BitVec.ofNat 32 k.val := by
  rw [Ideal.argReduce_eq_reduce2]
  unfold Host.reduce2
  have bot : Ideal.ofBits .f32 0xFF800000#32 = ⊥ := by decide
  have fib : ∀ i : (⟨2, ![16384, n]⟩ : Shape).Idx, h.drop i = ix1 r ↔ ∃ k : Fin n, ix2 r k = i := fun i => h.fiber_r2_a1 (ix1 r) i
  show (List.foldl (fun p q => reducer_argmax_f32_i32 (F := Ideal) p (x ((⟨2, ![16384, n]⟩ : Shape).rowMajor.symm q),
      BitVec.ofNat 32 (((⟨2, ![16384, n]⟩ : Shape).rowMajor.symm q) 1).val)) (Ideal.ofBits .f32 0xFF800000#32, 0#32) _).2 = _
  rw [bot]
  refine foldl_index hk hn picks (fun q => (x ((⟨2, ![16384, n]⟩ : Shape).rowMajor.symm q),
      BitVec.ofNat 32 (((⟨2, ![16384, n]⟩ : Shape).rowMajor.symm q) 1).val)) _ (fun q hq => ?_) ?_
  · obtain ⟨i, hi⟩ := (fib _).1 (of_decide_eq_true (List.mem_filter.1 hq).2)
    refine ⟨i, ?_⟩
    rw [← hi]
    rfl
  · refine ⟨(⟨2, ![16384, n]⟩ : Shape).rowMajor (ix2 r k), List.mem_filter.2 ⟨List.mem_finRange _, decide_eq_true ?_⟩, ?_⟩
    · rw [Equiv.symm_apply_apply]
      exact (fib _).2 ⟨k, rfl⟩
    · dsimp only
      rw [Equiv.symm_apply_apply]
      rfl

/-- A row's metric index is its metric, -/
theorem metricIdx_apply (s : FVec Ideal S16384x256 .f32) (r : Fin 16384) :
    RefRun.metricIdx s (ix1 r) = BitVec.ofNat 32 (Row.metric s r).val := by
  refine search_apply (by decide) _ _ _ r ?_
  have e : (fun i : Fin 10 => extractStridedSlice S16384x10 ![0, 1] s slices_S16384x256_S16384x10_0_1 (ix2 r i)) = Row.metrics s r := by
    funext i
    pointwise
    rfl
  exact e ▸ Row.metric_spec s r

/-- and its task index its task. -/
theorem taskIdx_apply (s : FVec Ideal S16384x256 .f32) (r : Fin 16384) :
    RefRun.taskIdx s (ix1 r) = BitVec.ofNat 32 (Row.task s r).val := by
  refine search_apply (by decide) _ _ _ r ?_
  have e : (fun i : Fin 8 => extractStridedSlice S16384x8 ![0, 11] s slices_S16384x256_S16384x8_0_11 (ix2 r i)) = Row.tasks s r := by
    funext i
    pointwise
    rfl
  exact e ▸ Row.task_spec s r

/-! ## The index pairs -/

/-- The first index of pair `r` is the first vector's entry, -/
theorem pair_fst (a b : IVec S16384 32) (r : Fin 16384) : RefRun.pair a b (ix2 r 0) = a (ix1 r) := by
  unfold RefRun.pair
  pointwise

/-- and the second the second's. -/
theorem pair_snd (a b : IVec S16384 32) (r : Fin 16384) : RefRun.pair a b (ix2 r 1) = b (ix1 r) := by
  unfold RefRun.pair
  pointwise

/-- An index that is not negative is left as it is. -/
theorem wrap_apply (n : BitVec 32) (x : IVec S16384 32) (r : Fin 16384) (h : (x (ix1 r)).toNat < 2147483648) : RefRun.wrap n x (ix1 r) = x (ix1 r) :=
  Routing.wrap_of_lt _ _ h

/-! ## The table's entry -/

/-- A row of the lookup whose two index words are small numbers reads the table there. -/
theorem lookup_apply (t : IVec S8x10 32) (idx : IVec S16384x2 32) (r : Fin 16384) (i : Fin 8) (j : Fin 10)
    (h0 : idx (ix2 r 0) = BitVec.ofNat 32 i.val) (h1 : idx (ix2 r 1) = BitVec.ofNat 32 j.val) :
    Host.gather gather_S8x10_S16384x2_S16384_n_01_n_n_01_1_11 t idx (ix1 r) = t (ix2 i j) := by
  unfold Host.gather
  refine congrArg t (funext fun a => Fin.ext ?_)
  show GatherDims.start gather_S8x10_S16384x2_S16384_n_01_n_n_01_1_11 (ix1 r) idx a
    + GatherDims.batchCoord gather_S8x10_S16384x2_S16384_n_01_n_n_01_1_11 (ix1 r) a
    + GatherDims.offCoord gather_S8x10_S16384x2_S16384_n_01_n_n_01_1_11 (ix1 r) a = _
  rw [GatherDims.batchCoord_eq_zero _ _ _ List.not_mem_nil,
    GatherDims.offCoord_eq_zero _ _ _ (fun h => ((GatherDims.mem_sKept _ _).mp h).1 (by
      show a ∈ ([0, 1] : List (Fin 2))
      match a with
      | ⟨0, _⟩ => exact List.mem_cons_self
      | ⟨1, _⟩ => exact List.mem_cons_of_mem _ List.mem_cons_self))]
  match a with
  | ⟨0, _⟩ =>
    have hm : (0 : Fin 2) ∈ gather_S8x10_S16384x2_S16384_n_01_n_n_01_1_11.startIndexMap := by
      show (0 : Fin 2) ∈ ([0, 1] : List (Fin 2))
      simp
    have e : gather_S8x10_S16384x2_S16384_n_01_n_n_01_1_11.siIdx (ix1 r) ⟨_, List.idxOf_lt_length_iff.2 hm⟩ = (ix2 r 0 : S16384x2.Idx) := by
      funext b; refine Fin.ext ?_
      match b with
      | ⟨0, _⟩ => rfl
      | ⟨1, _⟩ => rfl
    have hs : gather_S8x10_S16384x2_S16384_n_01_n_n_01_1_11.start (ix1 r) idx 0 = min (idx (ix2 r 0)).toInt.toNat 7 := (dif_pos hm).trans (by rw [e]; rfl)
    show gather_S8x10_S16384x2_S16384_n_01_n_n_01_1_11.start (ix1 r) idx 0 + 0 + 0 = i.val
    rw [hs, h0, toInt_small (by omega)]
    omega
  | ⟨1, _⟩ =>
    have hm : (1 : Fin 2) ∈ gather_S8x10_S16384x2_S16384_n_01_n_n_01_1_11.startIndexMap := by
      show (1 : Fin 2) ∈ ([0, 1] : List (Fin 2))
      simp
    have e : gather_S8x10_S16384x2_S16384_n_01_n_n_01_1_11.siIdx (ix1 r) ⟨_, List.idxOf_lt_length_iff.2 hm⟩ = (ix2 r 1 : S16384x2.Idx) := by
      funext b; refine Fin.ext ?_
      match b with
      | ⟨0, _⟩ => rfl
      | ⟨1, _⟩ => rfl
    have hs : gather_S8x10_S16384x2_S16384_n_01_n_n_01_1_11.start (ix1 r) idx 1 = min (idx (ix2 r 1)).toInt.toNat 9 := (dif_pos hm).trans (by rw [e]; rfl)
    show gather_S8x10_S16384x2_S16384_n_01_n_n_01_1_11.start (ix1 r) idx 1 + 0 + 0 = j.val
    rw [hs, h1, toInt_small (by omega)]
    omega

/-- A small number, read unsigned, stays below 2³¹. -/
theorem toNat_small {k : Nat} (hk : k < 2147483648) : (BitVec.ofNat 32 k).toNat < 2147483648 := by
  rw [BitVec.toNat_ofNat]; omega

/-- The action of a row is its word. -/
theorem action_apply (s : FVec Ideal S16384x256 .f32) (t : IVec S8x10 32) (r : Fin 16384) : RefRun.action s t (ix1 r) = Row.word s t r := by
  refine lookup_apply t _ r (Row.task s r) (Row.metric s r) ?_ ?_
  · rw [pair_fst, wrap_apply _ _ _ (taskIdx_apply s r ▸ toNat_small (by omega)), taskIdx_apply]
  · rw [pair_snd, wrap_apply _ _ _ (metricIdx_apply s r ▸ toNat_small (by omega)), metricIdx_apply]

/-! ## The one-hot rows -/

/-- Update `a` of the scatter lands at `(r, c)` exactly when its two index words, read signed, are `r` and `c`. -/
theorem lands_iff (idx : IVec S16384x2 32) (a : Fin 16384) (r : Fin 16384) (c : Fin 1024) :
    scatter_S16384x1024_S16384x2_S16384_n_01_01_1.resultIdx? (ix1 a) idx = some (ix2 r c)
      ↔ (idx (ix2 a 0)).toInt = r.val ∧ (idx (ix2 a 1)).toInt = c.val := by
  have hw : ∀ q : Fin 2, ScatterDims.window scatter_S16384x1024_S16384x2_S16384_n_01_01_1 (ix1 a) q = 0 := fun q => by
    unfold ScatterDims.window
    rw [dif_neg fun h => (of_decide_eq_true (List.mem_filter.1 h).2) (by
      show q ∈ ([0, 1] : List (Fin 2))
      fin_cases q <;> simp)]
  have hs : ∀ q : Fin 2, ScatterDims.start scatter_S16384x1024_S16384x2_S16384_n_01_01_1 (ix1 a) idx q = (idx (ix2 a q)).toInt := fun q => by
    have hm : q ∈ scatter_S16384x1024_S16384x2_S16384_n_01_01_1.scatterDimsToOperandDims := by
      show q ∈ ([0, 1] : List (Fin 2))
      fin_cases q <;> simp
    have e : scatter_S16384x1024_S16384x2_S16384_n_01_01_1.siIdx (ix1 a) ⟨_, List.idxOf_lt_length_iff.2 hm⟩ = (ix2 a q : S16384x2.Idx) := by
      funext b; refine Fin.ext ?_
      match b with
      | ⟨0, _⟩ => rfl
      | ⟨1, _⟩ =>
        show List.idxOf q ([0, 1] : List (Fin 2)) = q.val
        fin_cases q <;> rfl
    exact (dif_pos hm).trans (by rw [e])
  rw [Routing.resultIdx?_eq_some]
  constructor
  · intro h
    have h0 := h 0
    have h1 := h 1
    rw [hs 0, hw 0] at h0
    rw [hs 1, hw 1] at h1
    exact ⟨by simpa using h0, by simpa using h1⟩
  · intro h q
    rw [hs q, hw q]
    match q with
    | ⟨0, _⟩ => simpa using h.1
    | ⟨1, _⟩ => simpa using h.2

/-- Where the row's word is not negative, the first result is the one-hot row. -/
theorem probs_apply (s : FVec Ideal S16384x256 .f32) (t : IVec S8x10 32) (r : Fin 16384) (c : Fin 1024)
    (ht : ∀ a, (Row.word s t a).toNat < 2147483648) : RefRun.probs s t (ix2 r c) = Row.oneHot s t (ix2 r c) := by
  set idx : IVec S16384x2 32 := RefRun.pair (RefRun.wrap 16384#32 (iotaInDim S16384 32 0)) (RefRun.wrap 1024#32 (RefRun.action s t)) with hidx
  have i0 : ∀ a : Fin 16384, (idx (ix2 a 0)).toInt = a.val := fun a => by
    have e : iotaInDim S16384 32 0 (ix1 a) = BitVec.ofNat 32 a.val := rfl
    rw [hidx, pair_fst, wrap_apply _ _ _ (e ▸ toNat_small (by omega)), e, toInt_small (by omega)]
  have i1 : ∀ a : Fin 16384, (idx (ix2 a 1)).toInt = (Row.word s t a).toInt := fun a => by
    rw [hidx, pair_snd, wrap_apply _ _ _ (action_apply s t a ▸ ht a), action_apply]
  show Host.scatter scatter_S16384x1024_S16384x2_S16384_n_01_01_1 (fun _ b => b)
    (broadcastInDim S16384x1024 ![] bcast_S_S16384x1024 (constant (F := Ideal) S_ .f32 0x00000000#32)) idx
    (broadcastInDim S16384 ![] bcast_S_S16384 (constant (F := Ideal) S_ .f32 0x3F800000#32)) (ix2 r c)
    = if BitVec.ofNat 32 c.val = Row.word s t r then (1 : EReal) else 0
  by_cases h : BitVec.ofNat 32 c.val = Row.word s t r
  · rw [if_pos h]
    refine Routing.scatter_set_hit _ _ _ _ _ _ (fun k _ => ?_) (ix1 r) ((lands_iff idx r r c).2 ⟨i0 r, ?_⟩)
    · exact Ideal.ofBits_one_f32
    · rw [i1, ← h, toInt_small (by omega)]
  · rw [if_neg h]
    refine (Routing.scatter_set_miss _ _ _ _ _ fun k hk => ?_).trans Ideal.ofBits_zero_f32
    obtain ⟨a, rfl⟩ : ∃ a : Fin 16384, k = ix1 a := ⟨k 0, ValueIdx.eq_ix1 k⟩
    obtain ⟨e0, e1⟩ := (lands_iff idx a r c).1 hk
    rw [i0] at e0
    have er : a = r := Fin.ext (by exact_mod_cast e0)
    rw [i1, er] at e1
    exact h (BitVec.eq_of_toInt_eq ((toInt_small (by omega)).trans e1.symm))

/-- The logarithm of 1 is 0, -/
theorem log_one : Ideal.log 1 = 0 := by
  show Ideal.log ((1 : ℝ) : EReal) = 0
  rw [Ideal.log_coe, if_neg (by norm_num), Real.log_one]
  rfl

/-- and that of 0 is −∞. -/
theorem log_zero : Ideal.log 0 = ⊥ := by
  show Ideal.log ((0 : ℝ) : EReal) = ⊥
  rw [Ideal.log_coe, if_pos le_rfl]

/-- The floor of the logarithm, −10⁶, is not positive. -/
theorem floor_le : Ideal.ofBits .f32 0xC9742400#32 ≤ 0 := by
  have e : Ideal.ofBits .f32 0xC9742400#32 = ((-1000000 : ℝ) : EReal) := by
    simp [Ideal.ofBits, Ideal.ieee, -EReal.coe_mul, -EReal.coe_neg]; norm_num
  rw [e]
  exact_mod_cast (by norm_num : (-1000000 : ℝ) ≤ 0)

/-- The second result is the one-hot row's logarithm, held at −10⁶: 0 at the one, −10⁶ at a zero. -/
theorem logits_apply (s : FVec Ideal S16384x256 .f32) (t : IVec S8x10 32) (r : Fin 16384) (c : Fin 1024)
    (ht : ∀ a, (Row.word s t a).toNat < 2147483648) : RefRun.logits s t (ix2 r c) = Row.logOneHot s t (ix2 r c) := by
  have e : RefRun.logits s t (ix2 r c) = max (Ideal.log (RefRun.probs s t (ix2 r c))) (Ideal.ofBits .f32 0xC9742400#32) := by
    unfold RefRun.logits
    pointwise
  have hp : RefRun.probs s t (ix2 r c) = if BitVec.ofNat 32 c.val = Row.word s t r then (1 : EReal) else 0 := probs_apply s t r c ht
  have hl : Row.logOneHot s t (ix2 r c) = if BitVec.ofNat 32 c.val = Row.word s t r then (0 : EReal) else Ideal.ofBits .f32 0xC9742400#32 := rfl
  rw [e, hp, hl]
  by_cases h : BitVec.ofNat 32 c.val = Row.word s t r
  · rw [if_pos h, if_pos h, log_one]
    exact max_eq_left floor_le
  · rw [if_neg h, if_neg h, log_zero]
    exact max_eq_right bot_le

end Cert.Proof.RefValue
-- ==== Proof.Equation.lean ====
/-
  The two programs' results are equal where no word of the table is negative.
-/
module

public import proofs.«01_k».proof.Defs
public import proofs.«01_k».proof.Proof.Gen.Pre_table_nonnegative
public import proofs.«01_k».proof.Proof.RefValue

@[expose] public section

noncomputable section

namespace Cert.Proof.Equation

open Idealize.ShloMosaic Idealize.ShloMosaic.WordCmp

/-- The precondition, read at an index: no word of the table is negative. -/
theorem table_small (s : FVec Ideal ⟨2, ![16384, 256]⟩ .f32) (t : IVec ⟨2, ![8, 10]⟩ 32)
    (h : Cert.Pre_table_nonnegative.fn (F := Ideal) s t = fun _ => 1#1) (i : (⟨2, ![8, 10]⟩ : Shape).Idx) : (t i).toNat < 2147483648 := by
  have e : BitVec.ofBool (decide ((t i).toNat < 2147483648)) = 1#1 := (cmpi_sge_zero (t i)).symm.trans (congrFun h i)
  by_contra hc
  rw [decide_eq_false hc] at e
  exact absurd e (by decide)

/-- The one-hot rows. -/
theorem probs_eq (s : FVec Ideal ⟨2, ![16384, 256]⟩ .f32) (t : IVec ⟨2, ![8, 10]⟩ 32)
    (h : Cert.Pre_table_nonnegative.fn (F := Ideal) s t = fun _ => 1#1) : RefRun.probs s t = Row.oneHot s t := funext fun j => by
  rw [ValueIdx.eq_ix2 j]
  exact RefValue.probs_apply s t (j 0) (j 1) fun _ => table_small s t h _

/-- Their held logarithm. -/
theorem logits_eq (s : FVec Ideal ⟨2, ![16384, 256]⟩ .f32) (t : IVec ⟨2, ![8, 10]⟩ 32)
    (h : Cert.Pre_table_nonnegative.fn (F := Ideal) s t = fun _ => 1#1) : RefRun.logits s t = Row.logOneHot s t := funext fun j => by
  rw [ValueIdx.eq_ix2 j]
  exact RefValue.logits_apply s t (j 0) (j 1) fun _ => table_small s t h _

end Cert.Proof.Equation
-- ==== Proof.lean ====
/-
  The claims about the kernel and its reference, assembled: both programs run, keep their arguments and leave every counter at zero,
  and at exact arithmetic their four results agree wherever no word of the table is negative.
-/
module

public import proofs.«01_k».proof.Defs
public import proofs.«01_k».proof.Proof.Gen.Kernel.Frame
public import proofs.«01_k».proof.Proof.Gen.Pre_table_nonnegative
public import proofs.«01_k».proof.Proof.KernelRun
public import proofs.«01_k».proof.Proof.Equation

@[expose] public section

noncomputable section

namespace Cert.Proof

open Idealize.ShloMosaic Idealize.ShloMosaic.TcCoe Idealize.SL.Sem

/-- The reference runs, keeps its two arguments and ends with every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.2.2.1, (h c).2.2.2.2⟩, sem_eq_zero_of_no_sems (by decide) r.2⟩) (RefRun.run m g)

/-- From memories that agree on the arguments, with no negative word in the table, the two programs end with equal results. -/
theorem algebraic : Cert.algebraic_KernelIdeal_ReferenceIdeal_pre_table_nonnegative
    (hKernelIdeal := Cert.KernelIdeal.Gen.facts) (hReferenceIdeal := Cert.ReferenceIdeal.Gen.facts)
    (hPre_table_nonnegative := Cert.Pre_table_nonnegative.Gen.facts) := by
  intro m g m' g' hpre hargs
  refine ⟨_, _, _, _, (θ_run _ _ _).mono (fun r h c => ⟨(h c).1, (h c).2.1, (h c).1, (h c).2.2⟩) (KernelRun.run m g),
    (θ_run _ _ _).mono (fun r h c => ?_) (RefRun.run m' g')⟩
  obtain ⟨hp, hl, hf, h0, h1⟩ := h c
  obtain ⟨e0, e1⟩ := hargs c
  rw [e0, e1] at hp hl
  have ep := hp.trans (Equation.probs_eq _ _ (hpre c))
  exact ⟨ep, hl.trans (Equation.logits_eq _ _ (hpre c)), ep, hf, h0, h1⟩

/-- Every claim. -/
theorem claim : Cert.Claim := ⟨Cert.Kernel.Gen.facts, Cert.KernelIdeal.Gen.facts, Cert.ReferenceIdeal.Gen.facts, Cert.Pre_table_nonnegative.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial, algebraic⟩

end Cert.Proof

end
